-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v210)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v210) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x128 : Shape := ⟨2, ![1, 128]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x128 : Shape := ⟨2, ![330000, 128]⟩

abbrev nBuf : Space → Nat
  | .hbm => 281
  | .vmem => 10
  | .smem => 0
  | _ => 0

abbrev hbmTy0_0 (i : Nat) : BufTy := match i % 128 with
  | 0 => ⟨S10000x128, .f32⟩
  | 1 => ⟨S2x320000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S10000x128, .f32⟩
  | 11 => ⟨S10000, .i32⟩
  | 12 => ⟨S1x320000, .i32⟩
  | 13 => ⟨S320000, .i32⟩
  | 14 => ⟨S330000, .i32⟩
  | 15 => ⟨S1x320000, .i32⟩
  | 16 => ⟨S320000, .i32⟩
  | 17 => ⟨S330000, .i32⟩
  | 18 => ⟨S_, .f32⟩
  | 19 => ⟨S330000, .f32⟩
  | 20 => ⟨S_, .f32⟩
  | 21 => ⟨S10000, .f32⟩
  | 22 => ⟨S330000x1, .i32⟩
  | 23 => ⟨S10000, .f32⟩
  | 24 => ⟨S_, .f32⟩
  | 25 => ⟨S10000, .f32⟩
  | 26 => ⟨S10000, .i1⟩
  | 27 => ⟨S10000, .f32⟩
  | 28 => ⟨S_, .f32⟩
  | 29 => ⟨S_, .f32⟩
  | 30 => ⟨S10000, .f32⟩
  | 31 => ⟨S10000, .f32⟩
  | 32 => ⟨S_, .i32⟩
  | 33 => ⟨S330000, .i32⟩
  | 34 => ⟨S330000, .i1⟩
  | 35 => ⟨S_, .i32⟩
  | 36 => ⟨S330000, .i32⟩
  | 37 => ⟨S330000, .i32⟩
  | 38 => ⟨S330000, .i32⟩
  | 39 => ⟨S330000x1, .i32⟩
  | 40 => ⟨S330000, .f32⟩
  | 41 => ⟨S_, .i32⟩
  | 42 => ⟨S330000, .i32⟩
  | 43 => ⟨S330000, .i1⟩
  | 44 => ⟨S_, .i32⟩
  | 45 => ⟨S330000, .i32⟩
  | 46 => ⟨S330000, .i32⟩
  | 47 => ⟨S330000, .i32⟩
  | 48 => ⟨S330000x1, .i32⟩
  | 49 => ⟨S330000, .f32⟩
  | 50 => ⟨S330000, .f32⟩
  | 51 => ⟨S_, .i32⟩
  | 52 => ⟨S330000, .i32⟩
  | 53 => ⟨S330000, .i1⟩
  | 54 => ⟨S_, .i32⟩
  | 55 => ⟨S330000, .i32⟩
  | 56 => ⟨S330000, .i32⟩
  | 57 => ⟨S330000, .i32⟩
  | 58 => ⟨S330000x1, .i32⟩
  | 59 => ⟨S330000x128, .f32⟩
  | 60 => ⟨S330000x1, .f32⟩
  | 61 => ⟨S330000x128, .f32⟩
  | 62 => ⟨S330000x128, .f32⟩
  | 63 => ⟨S_, .f32⟩
  | 64 => ⟨S10000x128, .f32⟩
  | 65 => ⟨S330000x1, .i32⟩
  | 66 => ⟨S10000x128, .f32⟩
  | 67 => ⟨S_, .f32⟩
  | 68 => ⟨S10000x128, .f32⟩
  | 69 => ⟨S10000x128, .f32⟩
  | 70 => ⟨S_, .f32⟩
  | 71 => ⟨S10000x128, .f32⟩
  | 72 => ⟨S10000x128, .f32⟩
  | 73 => ⟨S10000x128, .f32⟩
  | 74 => ⟨S_, .i32⟩
  | 75 => ⟨S330000, .i32⟩
  | 76 => ⟨S330000, .i1⟩
  | 77 => ⟨S_, .i32⟩
  | 78 => ⟨S330000, .i32⟩
  | 79 => ⟨S330000, .i32⟩
  | 80 => ⟨S330000, .i32⟩
  | 81 => ⟨S330000x1, .i32⟩
  | 82 => ⟨S330000x128, .f32⟩
  | 83 => ⟨S330000x1, .f32⟩
  | 84 => ⟨S330000x128, .f32⟩
  | 85 => ⟨S330000x128, .f32⟩
  | 86 => ⟨S_, .f32⟩
  | 87 => ⟨S10000x128, .f32⟩
  | 88 => ⟨S330000x1, .i32⟩
  | 89 => ⟨S10000x128, .f32⟩
  | 90 => ⟨S_, .f32⟩
  | 91 => ⟨S10000x128, .f32⟩
  | 92 => ⟨S10000x128, .f32⟩
  | 93 => ⟨S_, .f32⟩
  | 94 => ⟨S10000x128, .f32⟩
  | 95 => ⟨S10000x128, .f32⟩
  | 96 => ⟨S10000x128, .f32⟩
  | 97 => ⟨S_, .i32⟩
  | 98 => ⟨S330000, .i32⟩
  | 99 => ⟨S330000, .i1⟩
  | 100 => ⟨S_, .i32⟩
  | 101 => ⟨S330000, .i32⟩
  | 102 => ⟨S330000, .i32⟩
  | 103 => ⟨S330000, .i32⟩
  | 104 => ⟨S330000x1, .i32⟩
  | 105 => ⟨S330000x128, .f32⟩
  | 106 => ⟨S330000x1, .f32⟩
  | 107 => ⟨S330000x128, .f32⟩
  | 108 => ⟨S330000x128, .f32⟩
  | 109 => ⟨S_, .f32⟩
  | 110 => ⟨S10000x128, .f32⟩
  | 111 => ⟨S330000x1, .i32⟩
  | 112 => ⟨S10000x128, .f32⟩
  | 113 => ⟨S_, .f32⟩
  | 114 => ⟨S10000x128, .f32⟩
  | 115 => ⟨S10000x128, .f32⟩
  | 116 => ⟨S_, .f32⟩
  | 117 => ⟨S10000x128, .f32⟩
  | 118 => ⟨S10000x128, .f32⟩
  | 119 => ⟨S10000x128, .f32⟩
  | 120 => ⟨S_, .i32⟩
  | 121 => ⟨S330000, .i32⟩
  | 122 => ⟨S330000, .i1⟩
  | 123 => ⟨S_, .i32⟩
  | 124 => ⟨S330000, .i32⟩
  | 125 => ⟨S330000, .i32⟩
  | 126 => ⟨S330000, .i32⟩
  | 127 => ⟨S330000x1, .i32⟩
  | _ => ⟨S10000x128, .f32⟩

abbrev hbmTy0_1 (i : Nat) : BufTy := match i % 128 with
  | 0 => ⟨S330000x128, .f32⟩
  | 1 => ⟨S330000x1, .f32⟩
  | 2 => ⟨S330000x128, .f32⟩
  | 3 => ⟨S330000x128, .f32⟩
  | 4 => ⟨S_, .f32⟩
  | 5 => ⟨S10000x128, .f32⟩
  | 6 => ⟨S330000x1, .i32⟩
  | 7 => ⟨S10000x128, .f32⟩
  | 8 => ⟨S_, .f32⟩
  | 9 => ⟨S10000x128, .f32⟩
  | 10 => ⟨S10000x128, .f32⟩
  | 11 => ⟨S_, .f32⟩
  | 12 => ⟨S10000x128, .f32⟩
  | 13 => ⟨S10000x128, .f32⟩
  | 14 => ⟨S10000x128, .f32⟩
  | 15 => ⟨S_, .i32⟩
  | 16 => ⟨S330000, .i32⟩
  | 17 => ⟨S330000, .i1⟩
  | 18 => ⟨S_, .i32⟩
  | 19 => ⟨S330000, .i32⟩
  | 20 => ⟨S330000, .i32⟩
  | 21 => ⟨S330000, .i32⟩
  | 22 => ⟨S330000x1, .i32⟩
  | 23 => ⟨S330000x128, .f32⟩
  | 24 => ⟨S330000x1, .f32⟩
  | 25 => ⟨S330000x128, .f32⟩
  | 26 => ⟨S330000x128, .f32⟩
  | 27 => ⟨S_, .f32⟩
  | 28 => ⟨S10000x128, .f32⟩
  | 29 => ⟨S330000x1, .i32⟩
  | 30 => ⟨S10000x128, .f32⟩
  | 31 => ⟨S_, .f32⟩
  | 32 => ⟨S10000x128, .f32⟩
  | 33 => ⟨S10000x128, .f32⟩
  | 34 => ⟨S_, .f32⟩
  | 35 => ⟨S10000x128, .f32⟩
  | 36 => ⟨S10000x128, .f32⟩
  | 37 => ⟨S10000x128, .f32⟩
  | 38 => ⟨S_, .i32⟩
  | 39 => ⟨S330000, .i32⟩
  | 40 => ⟨S330000, .i1⟩
  | 41 => ⟨S_, .i32⟩
  | 42 => ⟨S330000, .i32⟩
  | 43 => ⟨S330000, .i32⟩
  | 44 => ⟨S330000, .i32⟩
  | 45 => ⟨S330000x1, .i32⟩
  | 46 => ⟨S330000x128, .f32⟩
  | 47 => ⟨S330000x1, .f32⟩
  | 48 => ⟨S330000x128, .f32⟩
  | 49 => ⟨S330000x128, .f32⟩
  | 50 => ⟨S_, .f32⟩
  | 51 => ⟨S10000x128, .f32⟩
  | 52 => ⟨S330000x1, .i32⟩
  | 53 => ⟨S10000x128, .f32⟩
  | 54 => ⟨S_, .f32⟩
  | 55 => ⟨S10000x128, .f32⟩
  | 56 => ⟨S10000x128, .f32⟩
  | 57 => ⟨S_, .f32⟩
  | 58 => ⟨S10000x128, .f32⟩
  | 59 => ⟨S10000x128, .f32⟩
  | 60 => ⟨S10000x128, .f32⟩
  | 61 => ⟨S_, .i32⟩
  | 62 => ⟨S330000, .i32⟩
  | 63 => ⟨S330000, .i1⟩
  | 64 => ⟨S_, .i32⟩
  | 65 => ⟨S330000, .i32⟩
  | 66 => ⟨S330000, .i32⟩
  | 67 => ⟨S330000, .i32⟩
  | 68 => ⟨S330000x1, .i32⟩
  | 69 => ⟨S330000x128, .f32⟩
  | 70 => ⟨S330000x1, .f32⟩
  | 71 => ⟨S330000x128, .f32⟩
  | 72 => ⟨S330000x128, .f32⟩
  | 73 => ⟨S_, .f32⟩
  | 74 => ⟨S10000x128, .f32⟩
  | 75 => ⟨S330000x1, .i32⟩
  | 76 => ⟨S10000x128, .f32⟩
  | 77 => ⟨S_, .f32⟩
  | 78 => ⟨S10000x128, .f32⟩
  | 79 => ⟨S10000x128, .f32⟩
  | 80 => ⟨S_, .f32⟩
  | 81 => ⟨S10000x128, .f32⟩
  | 82 => ⟨S10000x128, .f32⟩
  | 83 => ⟨S10000x128, .f32⟩
  | 84 => ⟨S_, .i32⟩
  | 85 => ⟨S330000, .i32⟩
  | 86 => ⟨S330000, .i1⟩
  | 87 => ⟨S_, .i32⟩
  | 88 => ⟨S330000, .i32⟩
  | 89 => ⟨S330000, .i32⟩
  | 90 => ⟨S330000, .i32⟩
  | 91 => ⟨S330000x1, .i32⟩
  | 92 => ⟨S330000x128, .f32⟩
  | 93 => ⟨S330000x1, .f32⟩
  | 94 => ⟨S330000x128, .f32⟩
  | 95 => ⟨S330000x128, .f32⟩
  | 96 => ⟨S_, .f32⟩
  | 97 => ⟨S10000x128, .f32⟩
  | 98 => ⟨S330000x1, .i32⟩
  | 99 => ⟨S10000x128, .f32⟩
  | 100 => ⟨S_, .f32⟩
  | 101 => ⟨S10000x128, .f32⟩
  | 102 => ⟨S10000x128, .f32⟩
  | 103 => ⟨S_, .f32⟩
  | 104 => ⟨S10000x128, .f32⟩
  | 105 => ⟨S10000x128, .f32⟩
  | 106 => ⟨S10000x128, .f32⟩
  | 107 => ⟨S_, .i32⟩
  | 108 => ⟨S330000, .i32⟩
  | 109 => ⟨S330000, .i1⟩
  | 110 => ⟨S_, .i32⟩
  | 111 => ⟨S330000, .i32⟩
  | 112 => ⟨S330000, .i32⟩
  | 113 => ⟨S330000, .i32⟩
  | 114 => ⟨S330000x1, .i32⟩
  | 115 => ⟨S330000x128, .f32⟩
  | 116 => ⟨S330000x1, .f32⟩
  | 117 => ⟨S330000x128, .f32⟩
  | 118 => ⟨S330000x128, .f32⟩
  | 119 => ⟨S_, .f32⟩
  | 120 => ⟨S10000x128, .f32⟩
  | 121 => ⟨S330000x1, .i32⟩
  | 122 => ⟨S10000x128, .f32⟩
  | 123 => ⟨S_, .f32⟩
  | 124 => ⟨S10000x128, .f32⟩
  | 125 => ⟨S10000x128, .f32⟩
  | 126 => ⟨S_, .f32⟩
  | 127 => ⟨S10000x128, .f32⟩
  | _ => ⟨S10000x128, .f32⟩

abbrev hbmTy0_2 (i : Nat) : BufTy := match i % 128 with
  | 0 => ⟨S10000x128, .f32⟩
  | 1 => ⟨S10000x128, .f32⟩
  | 2 => ⟨S_, .i32⟩
  | 3 => ⟨S330000, .i32⟩
  | 4 => ⟨S330000, .i1⟩
  | 5 => ⟨S_, .i32⟩
  | 6 => ⟨S330000, .i32⟩
  | 7 => ⟨S330000, .i32⟩
  | 8 => ⟨S330000, .i32⟩
  | 9 => ⟨S330000x1, .i32⟩
  | 10 => ⟨S330000x128, .f32⟩
  | 11 => ⟨S330000x1, .f32⟩
  | 12 => ⟨S330000x128, .f32⟩
  | 13 => ⟨S330000x128, .f32⟩
  | 14 => ⟨S_, .f32⟩
  | 15 => ⟨S10000x128, .f32⟩
  | 16 => ⟨S330000x1, .i32⟩
  | 17 => ⟨S10000x128, .f32⟩
  | 18 => ⟨S_, .f32⟩
  | 19 => ⟨S10000x128, .f32⟩
  | 20 => ⟨S10000x128, .f32⟩
  | 21 => ⟨S_, .f32⟩
  | 22 => ⟨S10000x128, .f32⟩
  | 23 => ⟨S10000x128, .f32⟩
  | 24 => ⟨S10000x128, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S128x128, .f32⟩
  | .local _ .vmem, ⟨2, _⟩ => ⟨S128, .f32⟩
  | .local _ .vmem, ⟨3, _⟩ => ⟨S128, .f32⟩
  | .local _ .vmem, ⟨4, _⟩ => ⟨S128, .f32⟩
  | .local _ .vmem, ⟨5, _⟩ => ⟨S128x128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_v63 : Ref sig .tc := ⟨.hbm, 92, rfl⟩
abbrev main_cst_15 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_16 : Ref sig .tc := ⟨.hbm, 97, rfl⟩
abbrev main_v67 : Ref sig .tc := ⟨.hbm, 98, rfl⟩
abbrev main_v68 : Ref sig .tc := ⟨.hbm, 99, rfl⟩
abbrev main_c_17 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_19 : Ref sig .tc := ⟨.hbm, 113, rfl⟩
abbrev main_v80 : Ref sig .tc := ⟨.hbm, 114, rfl⟩
abbrev main_v81 : Ref sig .tc := ⟨.hbm, 115, rfl⟩
abbrev main_cst_20 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_21 : Ref sig .tc := ⟨.hbm, 120, rfl⟩
abbrev main_v85 : Ref sig .tc := ⟨.hbm, 121, rfl⟩
abbrev main_v86 : Ref sig .tc := ⟨.hbm, 122, rfl⟩
abbrev main_c_22 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_23 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_24 : Ref sig .tc := ⟨.hbm, 136, rfl⟩
abbrev main_v98 : Ref sig .tc := ⟨.hbm, 137, rfl⟩
abbrev main_v99 : Ref sig .tc := ⟨.hbm, 138, rfl⟩
abbrev main_cst_25 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_c_26 : Ref sig .tc := ⟨.hbm, 143, rfl⟩
abbrev main_v103 : Ref sig .tc := ⟨.hbm, 144, rfl⟩
abbrev main_v104 : Ref sig .tc := ⟨.hbm, 145, rfl⟩
abbrev main_c_27 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_28 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_29 : Ref sig .tc := ⟨.hbm, 159, rfl⟩
abbrev main_v116 : Ref sig .tc := ⟨.hbm, 160, rfl⟩
abbrev main_v117 : Ref sig .tc := ⟨.hbm, 161, rfl⟩
abbrev main_cst_30 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_c_31 : Ref sig .tc := ⟨.hbm, 166, rfl⟩
abbrev main_v121 : Ref sig .tc := ⟨.hbm, 167, rfl⟩
abbrev main_v122 : Ref sig .tc := ⟨.hbm, 168, rfl⟩
abbrev main_c_32 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_33 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_34 : Ref sig .tc := ⟨.hbm, 182, rfl⟩
abbrev main_v134 : Ref sig .tc := ⟨.hbm, 183, rfl⟩
abbrev main_v135 : Ref sig .tc := ⟨.hbm, 184, rfl⟩
abbrev main_cst_35 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_c_36 : Ref sig .tc := ⟨.hbm, 189, rfl⟩
abbrev main_v139 : Ref sig .tc := ⟨.hbm, 190, rfl⟩
abbrev main_v140 : Ref sig .tc := ⟨.hbm, 191, rfl⟩
abbrev main_c_37 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_cst_38 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_cst_39 : Ref sig .tc := ⟨.hbm, 205, rfl⟩
abbrev main_v152 : Ref sig .tc := ⟨.hbm, 206, rfl⟩
abbrev main_v153 : Ref sig .tc := ⟨.hbm, 207, rfl⟩
abbrev main_cst_40 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_c_41 : Ref sig .tc := ⟨.hbm, 212, rfl⟩
abbrev main_v157 : Ref sig .tc := ⟨.hbm, 213, rfl⟩
abbrev main_v158 : Ref sig .tc := ⟨.hbm, 214, rfl⟩
abbrev main_c_42 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_cst_43 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_cst_44 : Ref sig .tc := ⟨.hbm, 228, rfl⟩
abbrev main_v170 : Ref sig .tc := ⟨.hbm, 229, rfl⟩
abbrev main_v171 : Ref sig .tc := ⟨.hbm, 230, rfl⟩
abbrev main_cst_45 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_c_46 : Ref sig .tc := ⟨.hbm, 235, rfl⟩
abbrev main_v175 : Ref sig .tc := ⟨.hbm, 236, rfl⟩
abbrev main_v176 : Ref sig .tc := ⟨.hbm, 237, rfl⟩
abbrev main_c_47 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_cst_48 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_cst_49 : Ref sig .tc := ⟨.hbm, 251, rfl⟩
abbrev main_v188 : Ref sig .tc := ⟨.hbm, 252, rfl⟩
abbrev main_v189 : Ref sig .tc := ⟨.hbm, 253, rfl⟩
abbrev main_cst_50 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_c_51 : Ref sig .tc := ⟨.hbm, 258, rfl⟩
abbrev main_v193 : Ref sig .tc := ⟨.hbm, 259, rfl⟩
abbrev main_v194 : Ref sig .tc := ⟨.hbm, 260, rfl⟩
abbrev main_c_52 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_cst_53 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_cst_54 : Ref sig .tc := ⟨.hbm, 274, rfl⟩
abbrev main_v206 : Ref sig .tc := ⟨.hbm, 275, rfl⟩
abbrev main_v207 : Ref sig .tc := ⟨.hbm, 276, rfl⟩
abbrev main_cst_55 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S10000x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S330000x1 : Shape := ⟨2, ![330000, 1]⟩
abbrev S330000x128 : Shape := ⟨2, ![330000, 128]⟩

abbrev nBuf : Space → Nat
  | .hbm => 381
  | .vmem => 0
  | .smem => 0
  | _ => 0

abbrev hbmTy0_0 (i : Nat) : BufTy := match i % 128 with
  | 0 => ⟨S10000x128, .f32⟩
  | 1 => ⟨S2x320000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S10000x128, .f32⟩
  | 12 => ⟨S1x128, .f32⟩
  | 13 => ⟨S10000x128, .f32⟩
  | 14 => ⟨S10000x128, .f32⟩
  | 15 => ⟨S_, .f32⟩
  | 16 => ⟨S10000x128, .f32⟩
  | 17 => ⟨S10000x128, .f32⟩
  | 18 => ⟨S_, .f32⟩
  | 19 => ⟨S128, .f32⟩
  | 20 => ⟨S_, .f32⟩
  | 21 => ⟨S128, .f32⟩
  | 22 => ⟨S128, .f32⟩
  | 23 => ⟨S_, .i32⟩
  | 24 => ⟨S_, .f32⟩
  | 25 => ⟨S128, .f32⟩
  | 26 => ⟨S1x128, .f32⟩
  | 27 => ⟨S_, .f32⟩
  | 28 => ⟨S1x128, .f32⟩
  | 29 => ⟨S1x128, .f32⟩
  | 30 => ⟨S10000x128, .f32⟩
  | 31 => ⟨S10000x128, .f32⟩
  | 32 => ⟨S10000x128, .f32⟩
  | 33 => ⟨S_, .f32⟩
  | 34 => ⟨S_, .f32⟩
  | 35 => ⟨S_, .f32⟩
  | 36 => ⟨S_, .f32⟩
  | 37 => ⟨S128, .f32⟩
  | 38 => ⟨S128, .f32⟩
  | 39 => ⟨S128, .f32⟩
  | 40 => ⟨S_, .f32⟩
  | 41 => ⟨S_, .i1⟩
  | 42 => ⟨S_, .f32⟩
  | 43 => ⟨S_, .f32⟩
  | 44 => ⟨S128, .f32⟩
  | 45 => ⟨S128, .f32⟩
  | 46 => ⟨S1x128, .f32⟩
  | 47 => ⟨S10000x128, .f32⟩
  | 48 => ⟨S10000x128, .f32⟩
  | 49 => ⟨S_, .f32⟩
  | 50 => ⟨S128, .f32⟩
  | 51 => ⟨S128, .f32⟩
  | 52 => ⟨S128, .f32⟩
  | 53 => ⟨S1x128, .f32⟩
  | 54 => ⟨S10000x128, .f32⟩
  | 55 => ⟨S10000x128, .f32⟩
  | 56 => ⟨S1x128, .f32⟩
  | 57 => ⟨S10000x128, .f32⟩
  | 58 => ⟨S10000x128, .f32⟩
  | 59 => ⟨S1x128, .f32⟩
  | 60 => ⟨S10000x128, .f32⟩
  | 61 => ⟨S10000x128, .f32⟩
  | 62 => ⟨S128x128, .f32⟩
  | 63 => ⟨S10000x128, .f32⟩
  | 64 => ⟨S1x128, .f32⟩
  | 65 => ⟨S10000x128, .f32⟩
  | 66 => ⟨S10000x128, .f32⟩
  | 67 => ⟨S_, .f32⟩
  | 68 => ⟨S128, .f32⟩
  | 69 => ⟨S_, .f32⟩
  | 70 => ⟨S128, .f32⟩
  | 71 => ⟨S128, .f32⟩
  | 72 => ⟨S_, .i32⟩
  | 73 => ⟨S_, .f32⟩
  | 74 => ⟨S128, .f32⟩
  | 75 => ⟨S1x128, .f32⟩
  | 76 => ⟨S_, .f32⟩
  | 77 => ⟨S1x128, .f32⟩
  | 78 => ⟨S1x128, .f32⟩
  | 79 => ⟨S10000x128, .f32⟩
  | 80 => ⟨S10000x128, .f32⟩
  | 81 => ⟨S10000x128, .f32⟩
  | 82 => ⟨S_, .f32⟩
  | 83 => ⟨S_, .f32⟩
  | 84 => ⟨S_, .f32⟩
  | 85 => ⟨S_, .f32⟩
  | 86 => ⟨S128, .f32⟩
  | 87 => ⟨S128, .f32⟩
  | 88 => ⟨S128, .f32⟩
  | 89 => ⟨S_, .f32⟩
  | 90 => ⟨S_, .i1⟩
  | 91 => ⟨S_, .f32⟩
  | 92 => ⟨S_, .f32⟩
  | 93 => ⟨S128, .f32⟩
  | 94 => ⟨S128, .f32⟩
  | 95 => ⟨S1x128, .f32⟩
  | 96 => ⟨S10000x128, .f32⟩
  | 97 => ⟨S10000x128, .f32⟩
  | 98 => ⟨S_, .f32⟩
  | 99 => ⟨S128, .f32⟩
  | 100 => ⟨S128, .f32⟩
  | 101 => ⟨S128, .f32⟩
  | 102 => ⟨S1x128, .f32⟩
  | 103 => ⟨S10000x128, .f32⟩
  | 104 => ⟨S10000x128, .f32⟩
  | 105 => ⟨S1x128, .f32⟩
  | 106 => ⟨S10000x128, .f32⟩
  | 107 => ⟨S10000x128, .f32⟩
  | 108 => ⟨S1x128, .f32⟩
  | 109 => ⟨S10000x128, .f32⟩
  | 110 => ⟨S10000x128, .f32⟩
  | 111 => ⟨S10000, .i32⟩
  | 112 => ⟨S1x320000, .i32⟩
  | 113 => ⟨S320000, .i32⟩
  | 114 => ⟨S330000, .i32⟩
  | 115 => ⟨S1x320000, .i32⟩
  | 116 => ⟨S320000, .i32⟩
  | 117 => ⟨S330000, .i32⟩
  | 118 => ⟨S_, .f32⟩
  | 119 => ⟨S330000, .f32⟩
  | 120 => ⟨S_, .f32⟩
  | 121 => ⟨S10000, .f32⟩
  | 122 => ⟨S330000x1, .i32⟩
  | 123 => ⟨S10000, .f32⟩
  | 124 => ⟨S_, .f32⟩
  | 125 => ⟨S10000, .f32⟩
  | 126 => ⟨S10000, .i1⟩
  | 127 => ⟨S10000, .f32⟩
  | _ => ⟨S10000x128, .f32⟩

abbrev hbmTy0_1 (i : Nat) : BufTy := match i % 128 with
  | 0 => ⟨S_, .f32⟩
  | 1 => ⟨S_, .f32⟩
  | 2 => ⟨S10000, .f32⟩
  | 3 => ⟨S10000, .f32⟩
  | 4 => ⟨S_, .i32⟩
  | 5 => ⟨S330000, .i32⟩
  | 6 => ⟨S330000, .i1⟩
  | 7 => ⟨S_, .i32⟩
  | 8 => ⟨S330000, .i32⟩
  | 9 => ⟨S330000, .i32⟩
  | 10 => ⟨S330000, .i32⟩
  | 11 => ⟨S330000x1, .i32⟩
  | 12 => ⟨S330000, .f32⟩
  | 13 => ⟨S_, .i32⟩
  | 14 => ⟨S330000, .i32⟩
  | 15 => ⟨S330000, .i1⟩
  | 16 => ⟨S_, .i32⟩
  | 17 => ⟨S330000, .i32⟩
  | 18 => ⟨S330000, .i32⟩
  | 19 => ⟨S330000, .i32⟩
  | 20 => ⟨S330000x1, .i32⟩
  | 21 => ⟨S330000, .f32⟩
  | 22 => ⟨S330000, .f32⟩
  | 23 => ⟨S_, .i32⟩
  | 24 => ⟨S330000, .i32⟩
  | 25 => ⟨S330000, .i1⟩
  | 26 => ⟨S_, .i32⟩
  | 27 => ⟨S330000, .i32⟩
  | 28 => ⟨S330000, .i32⟩
  | 29 => ⟨S330000, .i32⟩
  | 30 => ⟨S330000x1, .i32⟩
  | 31 => ⟨S330000x128, .f32⟩
  | 32 => ⟨S330000x1, .f32⟩
  | 33 => ⟨S330000x128, .f32⟩
  | 34 => ⟨S330000x128, .f32⟩
  | 35 => ⟨S_, .f32⟩
  | 36 => ⟨S10000x128, .f32⟩
  | 37 => ⟨S330000x1, .i32⟩
  | 38 => ⟨S10000x128, .f32⟩
  | 39 => ⟨S_, .f32⟩
  | 40 => ⟨S10000x128, .f32⟩
  | 41 => ⟨S10000x128, .f32⟩
  | 42 => ⟨S_, .f32⟩
  | 43 => ⟨S10000x128, .f32⟩
  | 44 => ⟨S10000x128, .f32⟩
  | 45 => ⟨S10000x128, .f32⟩
  | 46 => ⟨S_, .i32⟩
  | 47 => ⟨S330000, .i32⟩
  | 48 => ⟨S330000, .i1⟩
  | 49 => ⟨S_, .i32⟩
  | 50 => ⟨S330000, .i32⟩
  | 51 => ⟨S330000, .i32⟩
  | 52 => ⟨S330000, .i32⟩
  | 53 => ⟨S330000x1, .i32⟩
  | 54 => ⟨S330000x128, .f32⟩
  | 55 => ⟨S330000x1, .f32⟩
  | 56 => ⟨S330000x128, .f32⟩
  | 57 => ⟨S330000x128, .f32⟩
  | 58 => ⟨S_, .f32⟩
  | 59 => ⟨S10000x128, .f32⟩
  | 60 => ⟨S330000x1, .i32⟩
  | 61 => ⟨S10000x128, .f32⟩
  | 62 => ⟨S_, .f32⟩
  | 63 => ⟨S10000x128, .f32⟩
  | 64 => ⟨S10000x128, .f32⟩
  | 65 => ⟨S_, .f32⟩
  | 66 => ⟨S10000x128, .f32⟩
  | 67 => ⟨S10000x128, .f32⟩
  | 68 => ⟨S10000x128, .f32⟩
  | 69 => ⟨S_, .i32⟩
  | 70 => ⟨S330000, .i32⟩
  | 71 => ⟨S330000, .i1⟩
  | 72 => ⟨S_, .i32⟩
  | 73 => ⟨S330000, .i32⟩
  | 74 => ⟨S330000, .i32⟩
  | 75 => ⟨S330000, .i32⟩
  | 76 => ⟨S330000x1, .i32⟩
  | 77 => ⟨S330000x128, .f32⟩
  | 78 => ⟨S330000x1, .f32⟩
  | 79 => ⟨S330000x128, .f32⟩
  | 80 => ⟨S330000x128, .f32⟩
  | 81 => ⟨S_, .f32⟩
  | 82 => ⟨S10000x128, .f32⟩
  | 83 => ⟨S330000x1, .i32⟩
  | 84 => ⟨S10000x128, .f32⟩
  | 85 => ⟨S_, .f32⟩
  | 86 => ⟨S10000x128, .f32⟩
  | 87 => ⟨S10000x128, .f32⟩
  | 88 => ⟨S_, .f32⟩
  | 89 => ⟨S10000x128, .f32⟩
  | 90 => ⟨S10000x128, .f32⟩
  | 91 => ⟨S10000x128, .f32⟩
  | 92 => ⟨S_, .i32⟩
  | 93 => ⟨S330000, .i32⟩
  | 94 => ⟨S330000, .i1⟩
  | 95 => ⟨S_, .i32⟩
  | 96 => ⟨S330000, .i32⟩
  | 97 => ⟨S330000, .i32⟩
  | 98 => ⟨S330000, .i32⟩
  | 99 => ⟨S330000x1, .i32⟩
  | 100 => ⟨S330000x128, .f32⟩
  | 101 => ⟨S330000x1, .f32⟩
  | 102 => ⟨S330000x128, .f32⟩
  | 103 => ⟨S330000x128, .f32⟩
  | 104 => ⟨S_, .f32⟩
  | 105 => ⟨S10000x128, .f32⟩
  | 106 => ⟨S330000x1, .i32⟩
  | 107 => ⟨S10000x128, .f32⟩
  | 108 => ⟨S_, .f32⟩
  | 109 => ⟨S10000x128, .f32⟩
  | 110 => ⟨S10000x128, .f32⟩
  | 111 => ⟨S_, .f32⟩
  | 112 => ⟨S10000x128, .f32⟩
  | 113 => ⟨S10000x128, .f32⟩
  | 114 => ⟨S10000x128, .f32⟩
  | 115 => ⟨S_, .i32⟩
  | 116 => ⟨S330000, .i32⟩
  | 117 => ⟨S330000, .i1⟩
  | 118 => ⟨S_, .i32⟩
  | 119 => ⟨S330000, .i32⟩
  | 120 => ⟨S330000, .i32⟩
  | 121 => ⟨S330000, .i32⟩
  | 122 => ⟨S330000x1, .i32⟩
  | 123 => ⟨S330000x128, .f32⟩
  | 124 => ⟨S330000x1, .f32⟩
  | 125 => ⟨S330000x128, .f32⟩
  | 126 => ⟨S330000x128, .f32⟩
  | 127 => ⟨S_, .f32⟩
  | _ => ⟨S10000x128, .f32⟩

abbrev hbmTy0_2 (i : Nat) : BufTy := match i % 128 with
  | 0 => ⟨S10000x128, .f32⟩
  | 1 => ⟨S330000x1, .i32⟩
  | 2 => ⟨S10000x128, .f32⟩
  | 3 => ⟨S_, .f32⟩
  | 4 => ⟨S10000x128, .f32⟩
  | 5 => ⟨S10000x128, .f32⟩
  | 6 => ⟨S_, .f32⟩
  | 7 => ⟨S10000x128, .f32⟩
  | 8 => ⟨S10000x128, .f32⟩
  | 9 => ⟨S10000x128, .f32⟩
  | 10 => ⟨S_, .i32⟩
  | 11 => ⟨S330000, .i32⟩
  | 12 => ⟨S330000, .i1⟩
  | 13 => ⟨S_, .i32⟩
  | 14 => ⟨S330000, .i32⟩
  | 15 => ⟨S330000, .i32⟩
  | 16 => ⟨S330000, .i32⟩
  | 17 => ⟨S330000x1, .i32⟩
  | 18 => ⟨S330000x128, .f32⟩
  | 19 => ⟨S330000x1, .f32⟩
  | 20 => ⟨S330000x128, .f32⟩
  | 21 => ⟨S330000x128, .f32⟩
  | 22 => ⟨S_, .f32⟩
  | 23 => ⟨S10000x128, .f32⟩
  | 24 => ⟨S330000x1, .i32⟩
  | 25 => ⟨S10000x128, .f32⟩
  | 26 => ⟨S_, .f32⟩
  | 27 => ⟨S10000x128, .f32⟩
  | 28 => ⟨S10000x128, .f32⟩
  | 29 => ⟨S_, .f32⟩
  | 30 => ⟨S10000x128, .f32⟩
  | 31 => ⟨S10000x128, .f32⟩
  | 32 => ⟨S10000x128, .f32⟩
  | 33 => ⟨S_, .i32⟩
  | 34 => ⟨S330000, .i32⟩
  | 35 => ⟨S330000, .i1⟩
  | 36 => ⟨S_, .i32⟩
  | 37 => ⟨S330000, .i32⟩
  | 38 => ⟨S330000, .i32⟩
  | 39 => ⟨S330000, .i32⟩
  | 40 => ⟨S330000x1, .i32⟩
  | 41 => ⟨S330000x128, .f32⟩
  | 42 => ⟨S330000x1, .f32⟩
  | 43 => ⟨S330000x128, .f32⟩
  | 44 => ⟨S330000x128, .f32⟩
  | 45 => ⟨S_, .f32⟩
  | 46 => ⟨S10000x128, .f32⟩
  | 47 => ⟨S330000x1, .i32⟩
  | 48 => ⟨S10000x128, .f32⟩
  | 49 => ⟨S_, .f32⟩
  | 50 => ⟨S10000x128, .f32⟩
  | 51 => ⟨S10000x128, .f32⟩
  | 52 => ⟨S_, .f32⟩
  | 53 => ⟨S10000x128, .f32⟩
  | 54 => ⟨S10000x128, .f32⟩
  | 55 => ⟨S10000x128, .f32⟩
  | 56 => ⟨S_, .i32⟩
  | 57 => ⟨S330000, .i32⟩
  | 58 => ⟨S330000, .i1⟩
  | 59 => ⟨S_, .i32⟩
  | 60 => ⟨S330000, .i32⟩
  | 61 => ⟨S330000, .i32⟩
  | 62 => ⟨S330000, .i32⟩
  | 63 => ⟨S330000x1, .i32⟩
  | 64 => ⟨S330000x128, .f32⟩
  | 65 => ⟨S330000x1, .f32⟩
  | 66 => ⟨S330000x128, .f32⟩
  | 67 => ⟨S330000x128, .f32⟩
  | 68 => ⟨S_, .f32⟩
  | 69 => ⟨S10000x128, .f32⟩
  | 70 => ⟨S330000x1, .i32⟩
  | 71 => ⟨S10000x128, .f32⟩
  | 72 => ⟨S_, .f32⟩
  | 73 => ⟨S10000x128, .f32⟩
  | 74 => ⟨S10000x128, .f32⟩
  | 75 => ⟨S_, .f32⟩
  | 76 => ⟨S10000x128, .f32⟩
  | 77 => ⟨S10000x128, .f32⟩
  | 78 => ⟨S10000x128, .f32⟩
  | 79 => ⟨S_, .i32⟩
  | 80 => ⟨S330000, .i32⟩
  | 81 => ⟨S330000, .i1⟩
  | 82 => ⟨S_, .i32⟩
  | 83 => ⟨S330000, .i32⟩
  | 84 => ⟨S330000, .i32⟩
  | 85 => ⟨S330000, .i32⟩
  | 86 => ⟨S330000x1, .i32⟩
  | 87 => ⟨S330000x128, .f32⟩
  | 88 => ⟨S330000x1, .f32⟩
  | 89 => ⟨S330000x128, .f32⟩
  | 90 => ⟨S330000x128, .f32⟩
  | 91 => ⟨S_, .f32⟩
  | 92 => ⟨S10000x128, .f32⟩
  | 93 => ⟨S330000x1, .i32⟩
  | 94 => ⟨S10000x128, .f32⟩
  | 95 => ⟨S_, .f32⟩
  | 96 => ⟨S10000x128, .f32⟩
  | 97 => ⟨S10000x128, .f32⟩
  | 98 => ⟨S_, .f32⟩
  | 99 => ⟨S10000x128, .f32⟩
  | 100 => ⟨S10000x128, .f32⟩
  | 101 => ⟨S10000x128, .f32⟩
  | 102 => ⟨S_, .i32⟩
  | 103 => ⟨S330000, .i32⟩
  | 104 => ⟨S330000, .i1⟩
  | 105 => ⟨S_, .i32⟩
  | 106 => ⟨S330000, .i32⟩
  | 107 => ⟨S330000, .i32⟩
  | 108 => ⟨S330000, .i32⟩
  | 109 => ⟨S330000x1, .i32⟩
  | 110 => ⟨S330000x128, .f32⟩
  | 111 => ⟨S330000x1, .f32⟩
  | 112 => ⟨S330000x128, .f32⟩
  | 113 => ⟨S330000x128, .f32⟩
  | 114 => ⟨S_, .f32⟩
  | 115 => ⟨S10000x128, .f32⟩
  | 116 => ⟨S330000x1, .i32⟩
  | 117 => ⟨S10000x128, .f32⟩
  | 118 => ⟨S_, .f32⟩
  | 119 => ⟨S10000x128, .f32⟩
  | 120 => ⟨S10000x128, .f32⟩
  | 121 => ⟨S_, .f32⟩
  | 122 => ⟨S10000x128, .f32⟩
  | 123 => ⟨S10000x128, .f32⟩
  | 124 => ⟨S10000x128, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_call1_cst : Ref sig .tc := ⟨.hbm, 24, rfl⟩
abbrev main_call1_v0 : Ref sig .tc := ⟨.hbm, 25, rfl⟩
abbrev main_call1_v1 : Ref sig .tc := ⟨.hbm, 26, rfl⟩
abbrev main_call1_cst_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_cst_1 : Ref sig .tc := ⟨.hbm, 34, rfl⟩
abbrev main_call1_v8 : Ref sig .tc := ⟨.hbm, 35, rfl⟩
abbrev main_call1_cst_2 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_cst_3 : Ref sig .tc := ⟨.hbm, 40, rfl⟩
abbrev main_call1_v12 : Ref sig .tc := ⟨.hbm, 41, rfl⟩
abbrev main_call1_cst_4 : Ref sig .tc := ⟨.hbm, 42, rfl⟩
abbrev main_call1_call0_v0 : Ref sig .tc := ⟨.hbm, 43, rfl⟩
abbrev main_call1_call0_v1 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_cst_1 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_2 : Ref sig .tc := ⟨.hbm, 67, rfl⟩
abbrev main_v30 : Ref sig .tc := ⟨.hbm, 68, rfl⟩
abbrev main_cst_3 : Ref sig .tc := ⟨.hbm, 69, rfl⟩
abbrev main_v31 : Ref sig .tc := ⟨.hbm, 70, rfl⟩
abbrev main_v32 : Ref sig .tc := ⟨.hbm, 71, rfl⟩
abbrev main_c_4 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_cst_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_cst_1 : Ref sig .tc := ⟨.hbm, 83, rfl⟩
abbrev main_call2_v8 : Ref sig .tc := ⟨.hbm, 84, rfl⟩
abbrev main_call2_cst_2 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_cst_3 : Ref sig .tc := ⟨.hbm, 89, rfl⟩
abbrev main_call2_v12 : Ref sig .tc := ⟨.hbm, 90, rfl⟩
abbrev main_call2_cst_4 : Ref sig .tc := ⟨.hbm, 91, rfl⟩
abbrev main_call2_call0_v0 : Ref sig .tc := ⟨.hbm, 92, rfl⟩
abbrev main_call2_call0_v1 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_cst_5 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_cst_6 : Ref sig .tc := ⟨.hbm, 118, rfl⟩
abbrev main_v56 : Ref sig .tc := ⟨.hbm, 119, rfl⟩
abbrev main_cst_7 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_cst_8 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_cst_9 : Ref sig .tc := ⟨.hbm, 128, rfl⟩
abbrev main_call3_v0 : Ref sig .tc := ⟨.hbm, 129, rfl⟩
abbrev main_call3_v1 : Ref sig .tc := ⟨.hbm, 130, rfl⟩
abbrev main_v63 : Ref sig .tc := ⟨.hbm, 131, rfl⟩
abbrev main_c_10 : Ref sig .tc := ⟨.hbm, 132, rfl⟩
abbrev main_v64 : Ref sig .tc := ⟨.hbm, 133, rfl⟩
abbrev main_v65 : Ref sig .tc := ⟨.hbm, 134, rfl⟩
abbrev main_c_11 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_c_12 : Ref sig .tc := ⟨.hbm, 141, rfl⟩
abbrev main_v71 : Ref sig .tc := ⟨.hbm, 142, rfl⟩
abbrev main_v72 : Ref sig .tc := ⟨.hbm, 143, rfl⟩
abbrev main_c_13 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_c_14 : Ref sig .tc := ⟨.hbm, 151, rfl⟩
abbrev main_v79 : Ref sig .tc := ⟨.hbm, 152, rfl⟩
abbrev main_v80 : Ref sig .tc := ⟨.hbm, 153, rfl⟩
abbrev main_c_15 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_cst_16 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_cst_17 : Ref sig .tc := ⟨.hbm, 167, rfl⟩
abbrev main_v92 : Ref sig .tc := ⟨.hbm, 168, rfl⟩
abbrev main_v93 : Ref sig .tc := ⟨.hbm, 169, rfl⟩
abbrev main_cst_18 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_c_19 : Ref sig .tc := ⟨.hbm, 174, rfl⟩
abbrev main_v97 : Ref sig .tc := ⟨.hbm, 175, rfl⟩
abbrev main_v98 : Ref sig .tc := ⟨.hbm, 176, rfl⟩
abbrev main_c_20 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_cst_21 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_cst_22 : Ref sig .tc := ⟨.hbm, 190, rfl⟩
abbrev main_v110 : Ref sig .tc := ⟨.hbm, 191, rfl⟩
abbrev main_v111 : Ref sig .tc := ⟨.hbm, 192, rfl⟩
abbrev main_cst_23 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_c_24 : Ref sig .tc := ⟨.hbm, 197, rfl⟩
abbrev main_v115 : Ref sig .tc := ⟨.hbm, 198, rfl⟩
abbrev main_v116 : Ref sig .tc := ⟨.hbm, 199, rfl⟩
abbrev main_c_25 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_cst_26 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_cst_27 : Ref sig .tc := ⟨.hbm, 213, rfl⟩
abbrev main_v128 : Ref sig .tc := ⟨.hbm, 214, rfl⟩
abbrev main_v129 : Ref sig .tc := ⟨.hbm, 215, rfl⟩
abbrev main_cst_28 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_c_29 : Ref sig .tc := ⟨.hbm, 220, rfl⟩
abbrev main_v133 : Ref sig .tc := ⟨.hbm, 221, rfl⟩
abbrev main_v134 : Ref sig .tc := ⟨.hbm, 222, rfl⟩
abbrev main_c_30 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_cst_31 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_cst_32 : Ref sig .tc := ⟨.hbm, 236, rfl⟩
abbrev main_v146 : Ref sig .tc := ⟨.hbm, 237, rfl⟩
abbrev main_v147 : Ref sig .tc := ⟨.hbm, 238, rfl⟩
abbrev main_cst_33 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_c_34 : Ref sig .tc := ⟨.hbm, 243, rfl⟩
abbrev main_v151 : Ref sig .tc := ⟨.hbm, 244, rfl⟩
abbrev main_v152 : Ref sig .tc := ⟨.hbm, 245, rfl⟩
abbrev main_c_35 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_cst_36 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_cst_37 : Ref sig .tc := ⟨.hbm, 259, rfl⟩
abbrev main_v164 : Ref sig .tc := ⟨.hbm, 260, rfl⟩
abbrev main_v165 : Ref sig .tc := ⟨.hbm, 261, rfl⟩
abbrev main_cst_38 : Ref sig .tc := ⟨.hbm, 262, rfl⟩
abbrev main_v166 : Ref sig .tc := ⟨.hbm, 263, rfl⟩
abbrev main_v167 : Ref sig .tc := ⟨.hbm, 264, rfl⟩
abbrev main_v168 : Ref sig .tc := ⟨.hbm, 265, rfl⟩
abbrev main_c_39 : Ref sig .tc := ⟨.hbm, 266, rfl⟩
abbrev main_v169 : Ref sig .tc := ⟨.hbm, 267, rfl⟩
abbrev main_v170 : Ref sig .tc := ⟨.hbm, 268, rfl⟩
abbrev main_c_40 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_41 : Ref sig .tc := ⟨.hbm, 278, rfl⟩
abbrev main_v179 : Ref sig .tc := ⟨.hbm, 279, rfl⟩
abbrev main_v180 : Ref sig .tc := ⟨.hbm, 280, rfl⟩
abbrev main_v181 : Ref sig .tc := ⟨.hbm, 281, rfl⟩
abbrev main_cst_42 : Ref sig .tc := ⟨.hbm, 282, rfl⟩
abbrev main_v182 : Ref sig .tc := ⟨.hbm, 283, rfl⟩
abbrev main_v183 : Ref sig .tc := ⟨.hbm, 284, rfl⟩
abbrev main_cst_43 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_c_44 : Ref sig .tc := ⟨.hbm, 289, rfl⟩
abbrev main_v187 : Ref sig .tc := ⟨.hbm, 290, rfl⟩
abbrev main_v188 : Ref sig .tc := ⟨.hbm, 291, rfl⟩
abbrev main_c_45 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_cst_46 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_cst_47 : Ref sig .tc := ⟨.hbm, 305, rfl⟩
abbrev main_v200 : Ref sig .tc := ⟨.hbm, 306, rfl⟩
abbrev main_v201 : Ref sig .tc := ⟨.hbm, 307, rfl⟩
abbrev main_cst_48 : Ref sig .tc := ⟨.hbm, 308, rfl⟩
abbrev main_v202 : Ref sig .tc := ⟨.hbm, 309, rfl⟩
abbrev main_v203 : Ref sig .tc := ⟨.hbm, 310, rfl⟩
abbrev main_v204 : Ref sig .tc := ⟨.hbm, 311, rfl⟩
abbrev main_c_49 : Ref sig .tc := ⟨.hbm, 312, rfl⟩
abbrev main_v205 : Ref sig .tc := ⟨.hbm, 313, rfl⟩
abbrev main_v206 : Ref sig .tc := ⟨.hbm, 314, rfl⟩
abbrev main_c_50 : Ref sig .tc := ⟨.hbm, 315, rfl⟩
abbrev main_v207 : Ref sig .tc := ⟨.hbm, 316, rfl⟩
abbrev main_v208 : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_cst_51 : Ref sig .tc := ⟨.hbm, 324, rfl⟩
abbrev main_v215 : Ref sig .tc := ⟨.hbm, 325, rfl⟩
abbrev main_v216 : Ref sig .tc := ⟨.hbm, 326, rfl⟩
abbrev main_v217 : Ref sig .tc := ⟨.hbm, 327, rfl⟩
abbrev main_cst_52 : Ref sig .tc := ⟨.hbm, 328, rfl⟩
abbrev main_v218 : Ref sig .tc := ⟨.hbm, 329, rfl⟩
abbrev main_v219 : Ref sig .tc := ⟨.hbm, 330, rfl⟩
abbrev main_cst_53 : Ref sig .tc := ⟨.hbm, 331, rfl⟩
abbrev main_v220 : Ref sig .tc := ⟨.hbm, 332, rfl⟩
abbrev main_v221 : Ref sig .tc := ⟨.hbm, 333, rfl⟩
abbrev main_v222 : Ref sig .tc := ⟨.hbm, 334, rfl⟩
abbrev main_c_54 : Ref sig .tc := ⟨.hbm, 335, rfl⟩
abbrev main_v223 : Ref sig .tc := ⟨.hbm, 336, rfl⟩
abbrev main_v224 : Ref sig .tc := ⟨.hbm, 337, rfl⟩
abbrev main_c_55 : Ref sig .tc := ⟨.hbm, 338, rfl⟩
abbrev main_v225 : Ref sig .tc := ⟨.hbm, 339, rfl⟩
abbrev main_v226 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_v232 : Ref sig .tc := ⟨.hbm, 346, rfl⟩
abbrev main_cst_56 : Ref sig .tc := ⟨.hbm, 347, rfl⟩
abbrev main_v233 : Ref sig .tc := ⟨.hbm, 348, rfl⟩
abbrev main_v234 : Ref sig .tc := ⟨.hbm, 349, rfl⟩
abbrev main_v235 : Ref sig .tc := ⟨.hbm, 350, rfl⟩
abbrev main_cst_57 : Ref sig .tc := ⟨.hbm, 351, rfl⟩
abbrev main_v236 : Ref sig .tc := ⟨.hbm, 352, rfl⟩
abbrev main_v237 : Ref sig .tc := ⟨.hbm, 353, rfl⟩
abbrev main_cst_58 : Ref sig .tc := ⟨.hbm, 354, rfl⟩
abbrev main_v238 : Ref sig .tc := ⟨.hbm, 355, rfl⟩
abbrev main_v239 : Ref sig .tc := ⟨.hbm, 356, rfl⟩
abbrev main_v240 : Ref sig .tc := ⟨.hbm, 357, rfl⟩
abbrev main_c_59 : Ref sig .tc := ⟨.hbm, 358, rfl⟩
abbrev main_v241 : Ref sig .tc := ⟨.hbm, 359, rfl⟩
abbrev main_v242 : Ref sig .tc := ⟨.hbm, 360, rfl⟩
abbrev main_c_60 : Ref sig .tc := ⟨.hbm, 361, rfl⟩
abbrev main_v243 : Ref sig .tc := ⟨.hbm, 362, rfl⟩
abbrev main_v244 : Ref sig .tc := ⟨.hbm, 363, rfl⟩
abbrev main_v245 : Ref sig .tc := ⟨.hbm, 364, rfl⟩
abbrev main_v246 : Ref sig .tc := ⟨.hbm, 365, rfl⟩
abbrev main_v247 : Ref sig .tc := ⟨.hbm, 366, rfl⟩
abbrev main_v248 : Ref sig .tc := ⟨.hbm, 367, rfl⟩
abbrev main_v249 : Ref sig .tc := ⟨.hbm, 368, rfl⟩
abbrev main_v250 : Ref sig .tc := ⟨.hbm, 369, rfl⟩
abbrev main_cst_61 : Ref sig .tc := ⟨.hbm, 370, rfl⟩
abbrev main_v251 : Ref sig .tc := ⟨.hbm, 371, rfl⟩
abbrev main_v252 : Ref sig .tc := ⟨.hbm, 372, rfl⟩
abbrev main_v253 : Ref sig .tc := ⟨.hbm, 373, rfl⟩
abbrev main_cst_62 : Ref sig .tc := ⟨.hbm, 374, rfl⟩
abbrev main_v254 : Ref sig .tc := ⟨.hbm, 375, rfl⟩
abbrev main_v255 : Ref sig .tc := ⟨.hbm, 376, rfl⟩
abbrev main_cst_63 : Ref sig .tc := ⟨.hbm, 377, rfl⟩
abbrev main_v256 : Ref sig .tc := ⟨.hbm, 378, rfl⟩
abbrev main_v257 : Ref sig .tc := ⟨.hbm, 379, rfl⟩
abbrev main_v258 : Ref sig .tc := ⟨.hbm, 380, rfl⟩

abbrev nD : Nat := 1
abbrev τ : Topo := Topo.v7x

variable {F : FTy → Type} [FloatOps F]
-- ==== Proof.Propagate.lean ====
/-
  The propagation over the graph, which the kernel's program runs on the host after its Pallas call and the
  reference's program runs after its perceptron: what it computes from the edge list and the features, as one
  function, and that the host lines of the kernel's program compute it.
-/
module

public import proofs.«01_k».proof.Proof.Gen.KernelIdeal.Frame
public import Idealize.ShloMosaic.Lib.StableHlo.Run
public import Idealize.ShloMosaic.Lib.StableHlo.RunRead

@[expose] public section

noncomputable section

namespace Cert.Propagate

open Cert.KernelIdeal Idealize.ShloMosaic Idealize.ShloMosaic.TcCoe Idealize.ShloMosaic.StableHlo

variable {F : FTy → Type} [FloatOps F] [Facts]

/-- The sources of all edges: row 0 of the edge list, then each node itself (the self-loops). -/
def src (e : IVec S2x320000 32) : IVec S330000 32 :=
  concatenate S330000 0 [⟨S320000, shapeCast S320000 (extractStridedSlice S1x320000 ![0, 0] e
    Facts₀.slices_S2x320000_S1x320000_0_0) Facts₀.shapeCasts_S1x320000_S320000⟩, ⟨S10000, iotaInDim S10000 32 0⟩]
    Facts₀.concatenates_S320000_S10000_S330000_d0

/-- The destinations of all edges: row 1 of the edge list, then each node itself. -/
def dst (e : IVec S2x320000 32) : IVec S330000 32 :=
  concatenate S330000 0 [⟨S320000, shapeCast S320000 (extractStridedSlice S1x320000 ![1, 0] e
    Facts₀.slices_S2x320000_S1x320000_1_0) Facts₀.shapeCasts_S1x320000_S320000⟩, ⟨S10000, iotaInDim S10000 32 0⟩]
    Facts₀.concatenates_S320000_S10000_S330000_d0

/-- Node numbers as the start indices of a gather: a negative number counts from the end. -/
def rows (i : IVec S330000 32) : IVec S330000x1 32 :=
  broadcastInDim S330000x1 ![0] Facts₀.bcast_S330000_S330000x1_0
    (select (cmpi .slt i (broadcastInDim S330000 ![] Facts₀.bcast_S_S330000 (constantI S_ 32 0#32)))
      (addi i (broadcastInDim S330000 ![] Facts₀.bcast_S_S330000 (constantI S_ 32 10000#32))) i)

/-- The degree of each node: the number of edges that end there. -/
def degree (e : IVec S2x320000 32) : FVec F S10000 .f32 :=
  Host.scatterAdd scatter_S10000_S330000x1_S330000_n_0_0_1
    (broadcastInDim S10000 ![] Facts₀.bcast_S_S10000 (constant S_ .f32 0x00000000#32))
    (broadcastInDim S330000x1 ![0] Facts₀.bcast_S330000_S330000x1_0 (dst e))
    (broadcastInDim S330000 ![] Facts₀.bcast_S_S330000 (constant S_ .f32 0x3F800000#32))

/-- The inverse square root of each node's degree, and zero where the degree is not positive. -/
def invSqrtDegree (e : IVec S2x320000 32) : FVec F S10000 .f32 :=
  select (cmpf .ogt (degree (F := F) e) (broadcastInDim S10000 ![] Facts₀.bcast_S_S10000 (constant S_ .f32 0x00000000#32)))
    (Host.rsqrt (degree e))
    (broadcastInDim S10000 ![] Facts₀.bcast_S_S10000 (id (constant S_ .f32 0x00000000#32)))

/-- The weight of each edge: the product of the two at its ends. -/
def weight (e : IVec S2x320000 32) : FVec F S330000 .f32 :=
  mulf (Host.gather gather_S10000_S330000x1_S330000_n_0_n_n_0_1_1 (invSqrtDegree (F := F) e) (rows (src e)))
    (Host.gather gather_S10000_S330000x1_S330000_n_0_n_n_0_1_1 (invSqrtDegree (F := F) e) (rows (dst e)))

/-- One step of the propagation: each node gathers its neighbours' weighted features, scaled by 0.9, and 0.1 of the
    perceptron's features `h₀` is added. -/
def step (e : IVec S2x320000 32) (h₀ h : FVec F S10000x128 .f32) : FVec F S10000x128 .f32 :=
  addf
    (mulf (broadcastInDim S10000x128 ![] Facts₀.bcast_S_S10000x128 (constant S_ .f32 0x3F666666#32))
      (Host.scatterAdd scatter_S10000x128_S330000x1_S330000x128_1_0_0_1
        (broadcastInDim S10000x128 ![] Facts₀.bcast_S_S10000x128 (constant S_ .f32 0x00000000#32))
        (broadcastInDim S330000x1 ![0] Facts₀.bcast_S330000_S330000x1_0 (dst e))
        (mulf (Host.gather gather_S10000x128_S330000x1_S330000x128_1_0_n_n_0_1_1128 h (rows (src e)))
          (broadcastInDim S330000x128 ![0, 1] Facts₀.bcast_S330000x1_S330000x128_0_1
            (broadcastInDim S330000x1 ![0] Facts₀.bcast_S330000_S330000x1_0 (weight (F := F) e))))))
    (mulf (broadcastInDim S10000x128 ![] Facts₀.bcast_S_S10000x128 (constant S_ .f32 0x3DCCCCCD#32)) h₀)

/-- Ten steps, from the perceptron's features. -/
def propagate (e : IVec S2x320000 32) (h₀ : FVec F S10000x128 .f32) : FVec F S10000x128 .f32 :=
  (step e h₀)^[10] h₀

end Cert.Propagate
-- ==== Proof.Layers.lean ====
/-
  The perceptron over the extended reals: a linear layer, a batch normalisation by the column's mean and its biased
  variance, and the two of each that make it up. Beside them the one fact that lets two programs differ in how they
  normalise: dividing by the square root of a positive number is multiplying by its inverse square root.
-/
module

public import proofs.«01_k».proof.Proof.Gen.KernelIdeal
public import Idealize.ShloMosaic.Lib.Pointwise

@[expose] public section

noncomputable section

namespace Cert.Layers

open Cert.KernelIdeal Idealize.ShloMosaic

/-- The number of rows, as the programs write it: the float 10000. -/
abbrev rowCount : EReal := Ideal.ofBits .f32 0x461C4000#32
/-- What is added to a variance: the float 1e-5. -/
abbrev eps : EReal := Ideal.ofBits .f32 0x3727C5AC#32

theorem rowCount_eq : rowCount = ((10000 : ℝ) : EReal) := by
  simp [rowCount, Ideal.ofBits, Ideal.ieee]
  rw [← EReal.coe_mul]
  norm_num

theorem rowCount_pos : 0 < rowCount := by
  rw [rowCount_eq]
  exact_mod_cast (by norm_num : (0 : ℝ) < 10000)

theorem eps_pos : 0 < eps := by
  simp [eps, Ideal.ofBits, Ideal.ieee]
  rw [← EReal.coe_mul]
  norm_num

/-- A linear layer: row `r` of `x` against row `c` of `w`, plus the bias. -/
def linear (x : FVec Ideal S10000x128 .f32) (w : FVec Ideal S128x128 .f32) (b : FVec Ideal S128 .f32) :
    FVec Ideal S10000x128 .f32 := fun j =>
  (∑ k : Fin 128, x (ix2 (j 0) k) * w (ix2 (j 1) k)) + b (ix1 (j 1))

/-- The negative entries replaced by zero. -/
def relu (x : FVec Ideal S10000x128 .f32) : FVec Ideal S10000x128 .f32 := fun j => max (x j) 0

/-- The mean of column `c`. -/
def mean (h : FVec Ideal S10000x128 .f32) (c : Fin 128) : EReal :=
  Ideal.div (∑ k : Fin 10000, h (ix2 k c)) rowCount

/-- The biased variance of column `c`. -/
def variance (h : FVec Ideal S10000x128 .f32) (c : Fin 128) : EReal :=
  Ideal.div (∑ k : Fin 10000, (h (ix2 k c) - mean h c) * (h (ix2 k c) - mean h c)) rowCount

/-- Batch normalisation, scaled by `g` and shifted by `b`. -/
def batchNorm (h : FVec Ideal S10000x128 .f32) (g b : FVec Ideal S128 .f32) : FVec Ideal S10000x128 .f32 := fun j =>
  (h j - mean h (j 1)) * Ideal.rsqrt (variance h (j 1) + eps) * g (ix1 (j 1)) + b (ix1 (j 1))

/-- The perceptron: linear, relu, batch normalisation, linear, batch normalisation. -/
def perceptron (x : FVec Ideal S10000x128 .f32) (w₁ : FVec Ideal S128x128 .f32) (b₁ g₁ s₁ : FVec Ideal S128 .f32)
    (w₂ : FVec Ideal S128x128 .f32) (b₂ g₂ s₂ : FVec Ideal S128 .f32) : FVec Ideal S10000x128 .f32 :=
  batchNorm (linear (batchNorm (relu (linear x w₁ b₁)) g₁ s₁) w₂ b₂) g₂ s₂

/-- A square is not negative, at the infinities too. -/
theorem square_nonneg (x : EReal) : 0 ≤ x * x := by
  induction x with
  | bot => simp
  | top => simp
  | coe r => exact_mod_cast mul_self_nonneg r

theorem variance_nonneg (h : FVec Ideal S10000x128 .f32) (c : Fin 128) : 0 ≤ variance h c := by
  unfold variance
  rw [Ideal.div, if_neg rowCount_pos.ne']
  exact mul_nonneg (Finset.sum_nonneg fun _ _ => square_nonneg _) (EReal.inv_nonneg_of_nonneg rowCount_pos.le)

/-- What a batch normalisation takes the square root of is positive. -/
theorem variance_add_eps_pos (h : FVec Ideal S10000x128 .f32) (c : Fin 128) : 0 < variance h c + eps :=
  eps_pos.trans_le (le_add_of_nonneg_left (variance_nonneg h c))

/-- Dividing by the square root of a positive number is multiplying by its inverse square root. -/
theorem div_sqrt (x : EReal) {w : EReal} (hw : 0 < w) : Ideal.div x (Ideal.sqrt w) = x * Ideal.rsqrt w := by
  induction w with
  | bot => exact absurd hw (by simp)
  | top =>
    change Ideal.div x ⊤ = x * 0
    simp [Ideal.div]
  | coe r =>
    have hr : 0 < r := by exact_mod_cast hw
    have hs : √r ≠ 0 := (Real.sqrt_pos.mpr hr).ne'
    change Ideal.div x (if r < 0 then ⊥ else ((√r : ℝ) : EReal))
      = x * (if r < 0 then ⊥ else if r = 0 then ⊤ else (((√r)⁻¹ : ℝ) : EReal))
    rw [if_neg hr.not_gt, if_neg hr.not_gt, if_neg hr.ne', Ideal.div, if_neg (by exact_mod_cast hs), EReal.coe_inv]

end Cert.Layers
-- ==== Proof.ReferenceDense.lean ====
/-
  What the reference computes before its propagation: its own linear layers and batch normalisations, which transpose a
  weight and divide by a square root, are the perceptron of its arguments.
-/
module

public import proofs.«01_k».proof.Proof.Layers
public import proofs.«01_k».proof.Proof.Gen.ReferenceIdeal.Run

@[expose] public section

noncomputable section

namespace Cert.ReferenceDense

open Cert.ReferenceIdeal Cert.ReferenceIdeal.Facts₀ Cert.ReferenceIdeal.Value Idealize.ShloMosaic
  Idealize.ShloMosaic.TcCoe Idealize.ShloMosaic.StableHlo

section Ops

variable [Cert.ReferenceIdeal.Facts]

/-- A vector of 128 entries as each row of a matrix. -/
abbrev asRows (v : FVec Ideal S128 .f32) : FVec Ideal S10000x128 .f32 :=
  broadcastInDim S10000x128 ![0, 1] bcast_S1x128_S10000x128_0_1 (broadcastInDim S1x128 ![1] bcast_S128_S1x128_1 v)

/-- The reference's linear layer. -/
def hostLinear (x : FVec Ideal S10000x128 .f32) (w : FVec Ideal S128x128 .f32) (b : FVec Ideal S128 .f32) :
    FVec Ideal S10000x128 .f32 :=
  addf (Host.dotGeneral dot_S10000x128_S128x128_S10000x128_1_0_0_1_n_n none x
    (transpose S128x128 [1, 0] w transposes_S128x128_S128x128_1_0)) (asRows b)

/-- The reference's relu. -/
def hostRelu (x : FVec Ideal S10000x128 .f32) : FVec Ideal S10000x128 .f32 :=
  maximumf x (broadcastInDim S10000x128 ![] bcast_S_S10000x128 (constant S_ .f32 0x00000000#32))

/-- The sums of the columns. -/
abbrev columnSums (h : FVec Ideal S10000x128 .f32) : FVec Ideal S128 .f32 :=
  Host.reduceAdd h (constant S_ .f32 0x00000000#32) reducesTo_S10000x128_S128_d0 h_S_

/-- The entries less their column's mean, as the variance takes it. -/
def centred (h : FVec Ideal S10000x128 .f32) : FVec Ideal S10000x128 .f32 :=
  subf h (broadcastInDim S10000x128 ![0, 1] bcast_S1x128_S10000x128_0_1
    (Host.divf (broadcastInDim S1x128 ![1] bcast_S128_S1x128_1 (columnSums h))
      (broadcastInDim S1x128 ![] bcast_S_S1x128 (constant S_ .f32 0x461C4000#32))))

/-- The variance's divisor: the number of rows less the degrees of freedom taken off, of which there are none. -/
def divisor : FVec Ideal S_ .f32 := subf (constant S_ .f32 0x461C4000#32) (sitofp .f32 (constantI S_ 32 0#32))

/-- The columns' variances; where the divisor is not positive, what the reference puts instead. -/
def hostVariance (h : FVec Ideal S10000x128 .f32) : FVec Ideal S128 .f32 :=
  select (broadcastInDim S128 ![] bcast_S_S128 (cmpf .ogt divisor (constant S_ .f32 0x00000000#32)))
    (Host.divf (columnSums (mulf (centred h) (centred h))) (broadcastInDim S128 ![] bcast_S_S128 divisor))
    (broadcastInDim S128 ![] bcast_S_S128 (id (constant S_ .f32 0x7FC00000#32)))

/-- The reference's batch normalisation. -/
def hostBatchNorm (h : FVec Ideal S10000x128 .f32) (g b : FVec Ideal S128 .f32) : FVec Ideal S10000x128 .f32 :=
  addf (mulf (Host.divf
      (subf h (asRows (Host.divf (columnSums h) (broadcastInDim S128 ![] bcast_S_S128 (constant S_ .f32 0x461C4000#32)))))
      (asRows (Host.sqrt (addf (hostVariance h) (broadcastInDim S128 ![] bcast_S_S128 (constant S_ .f32 0x3727C5AC#32))))))
    (asRows g)) (asRows b)

theorem hostLinear_eq (x : FVec Ideal S10000x128 .f32) (w : FVec Ideal S128x128 .f32) (b : FVec Ideal S128 .f32) :
    hostLinear x w b = Layers.linear x w b := by
  funext j
  pointwise [hostLinear, Layers.linear]

theorem hostRelu_eq (x : FVec Ideal S10000x128 .f32) : hostRelu x = Layers.relu x := by
  funext j
  pointwise [hostRelu, Layers.relu]

theorem divisor_apply (j : S_.Idx) : divisor j = Layers.rowCount := by
  change Layers.rowCount - (((0#32).toInt : ℝ) : EReal) = _
  simp

/-- The columns' variances are the biased variances: the divisor is positive. -/
theorem hostVariance_apply (h : FVec Ideal S10000x128 .f32) (c : Fin 128) :
    hostVariance h (ix1 c) = Layers.variance h c := by
  pointwise [hostVariance, Layers.variance, Layers.mean, centred]
  rw [divisor_apply, if_pos Layers.rowCount_pos]

theorem hostBatchNorm_eq (h : FVec Ideal S10000x128 .f32) (g b : FVec Ideal S128 .f32) :
    hostBatchNorm h g b = Layers.batchNorm h g b := by
  funext j
  idx_vars j
  pointwise [hostBatchNorm, Layers.batchNorm, Layers.mean]
  rw [hostVariance_apply, Layers.div_sqrt _ (Layers.variance_add_eps_pos h _)]

end Ops

set_option maxRecDepth 8192 in
/-- The reference's features before its propagation, from any contents before its operations. -/
theorem dense_value (V : Valuation τ sig (Elt Ideal)) :
    res_main_v48 V = Layers.perceptron (V (Proc.devRef .tc main_arg0)) (V (Proc.devRef .tc main_arg2))
      (V (Proc.devRef .tc main_arg3)) (V (Proc.devRef .tc main_arg4)) (V (Proc.devRef .tc main_arg5))
      (V (Proc.devRef .tc main_arg6)) (V (Proc.devRef .tc main_arg7)) (V (Proc.devRef .tc main_arg8))
      (V (Proc.devRef .tc main_arg9)) := by
  unfold Layers.perceptron
  simp only [← hostLinear_eq, ← hostBatchNorm_eq, ← hostRelu_eq]
  rfl

end Cert.ReferenceDense
-- ==== Proof.ReferencePropagate.lean ====
/-
  What the reference computes after its perceptron: the same propagation of its edge list and its features.
-/
module

public import proofs.«01_k».proof.Proof.Propagate
public import proofs.«01_k».proof.Proof.ReferenceDense

@[expose] public section

noncomputable section

namespace Cert.ReferencePropagate

open Cert.ReferenceIdeal Cert.ReferenceIdeal.Value Idealize.ShloMosaic Idealize.SL.Sem
  Idealize.ShloMosaic.TcCoe Idealize.ShloMosaic.StableHlo

/-- What the reference leaves in its result: the propagation of its edge list and of the perceptron's features. -/
def result (m : (ℓ : Loc nD τ sig) → Buf (Elt Ideal) ℓ) (c : Dev nD) : FVec Ideal S10000x128 .f32 :=
  Propagate.propagate (m ((c.tc : Thread nD τ).loc main_arg1))
    (Layers.perceptron (m ((c.tc : Thread nD τ).loc main_arg0)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8))
      (m ((c.tc : Thread nD τ).loc main_arg9)))

set_option maxRecDepth 8192 in
/-- The reference's run, its result as the propagation. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v258) = result m c := by
  refine (θ_run defs _ _).mono (fun r h c => (h c).1.trans ?_) (run m ρ)
  have hd := ReferenceDense.dense_value (launchContents m c)
  change _ = Propagate.propagate (launchContents m c (Proc.devRef .tc main_arg1)) (Layers.perceptron
    (launchContents m c (Proc.devRef .tc main_arg0)) _ _ _ _ _ _ _ _)
  refine Eq.trans ?_ (congrArg (Propagate.propagate (launchContents m c (Proc.devRef .tc main_arg1))) hd)
  rfl

end Cert.ReferencePropagate
-- ==== Proof.KernelBlock.lean ====
/-
  What the kernel's block computes: the body's stored value is the perceptron of the blocks it loads.
-/
module

public import proofs.«01_k».proof.Proof.Layers
public import proofs.«01_k».proof.Proof.Gen.KernelIdeal.Skeleton

@[expose] public section

noncomputable section

namespace Cert.KernelBlock

open Cert.KernelIdeal Cert.KernelIdeal.Gen Cert.Layers Idealize.ShloMosaic

set_option maxRecDepth 16384 in
/-- The first stored stage: the first linear layer with its relu, normalised, through the second linear layer. -/
theorem first_stage (x : FVec Ideal S10000x128 .f32) (w₁ : FVec Ideal S128x128 .f32) (b₁ g₁ s₁ : FVec Ideal S128 .f32)
    (w₂ : FVec Ideal S128x128 .f32) (b₂ : FVec Ideal S128 .f32) :
    k0_pay2 x w₁ b₁ g₁ s₁ w₂ b₂ = linear (batchNorm (relu (linear x w₁ b₁)) g₁ s₁) w₂ b₂ := by
  funext j
  pointwise [k0_pay2, linear, batchNorm, variance, mean, relu]

set_option maxRecDepth 16384 in
/-- The second stage: the last batch normalisation. -/
theorem second_stage (h : FVec Ideal S10000x128 .f32) (g s : FVec Ideal S128 .f32) : k0_pay1 h g s = batchNorm h g s := by
  funext j
  pointwise [k0_pay1, batchNorm, variance, mean]

/-- The two stages together are the perceptron. -/
theorem block_value (x : FVec Ideal S10000x128 .f32) (w₁ : FVec Ideal S128x128 .f32) (b₁ g₁ s₁ : FVec Ideal S128 .f32)
    (w₂ : FVec Ideal S128x128 .f32) (b₂ g₂ s₂ : FVec Ideal S128 .f32) :
    k0_pay1 (k0_pay2 x w₁ b₁ g₁ s₁ w₂ b₂) g₂ s₂ = perceptron x w₁ b₁ g₁ s₁ w₂ b₂ g₂ s₂ := by
  rw [first_stage, second_stage, perceptron]

end Cert.KernelBlock
-- ==== Proof.KernelArray.lean ====
/-
  What the array of features holds after the Pallas call: its one block is the whole array, so it holds the perceptron of
  the arguments.
-/
module

public import proofs.«01_k».proof.Proof.KernelBlock
public import proofs.«01_k».proof.Proof.Gen.KernelIdeal.Frame
public import Idealize.ShloMosaic.Lib.Pipeline.ValueKit

@[expose] public section

noncomputable section

namespace Cert.KernelArray

open Cert.KernelIdeal Cert.KernelIdeal.Gen Idealize.ShloMosaic Idealize.ShloMosaic.Pipeline
  Idealize.ShloMosaic.TcCoe Idealize.ShloMosaic.StableHlo

variable (m : (ℓ : Loc nD τ sig) → Buf (Elt Ideal) ℓ) (c : Dev nD)

/-- The perceptron of the program's arguments. -/
def features : FVec Ideal S10000x128 .f32 :=
  Layers.perceptron (m ((c.tc : Thread nD τ).loc main_arg0)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9))

/-- Every window's block starts at its array's first element, at the one point of the grid. -/
theorem index_zero : ∀ w a, (cfg0.win w).index t0_0 a = 0 := by decide +kernel

theorem block_lt (w : Fin cfg0.W) (y : ((cfg0.win w).xblock (cfg0.grid.coords t0_0)).Idx) (a) :
    (y a : ℕ) < (cfg0.win w).shape.size a := by
  rw [← Window.rect_emb_val_of_index_zero (cfg0.win w) t0_0 a (index_zero w a) y]
  exact Fin.isLt _

/-- So it holds its array's elements at their own places. -/
theorem block_eq (w : Fin cfg0.W) :
    iblk m c w t0_0 = fun y => _root_.cast (congrArg (Elt Ideal) (cfg0.win w).arr.view.elt_eq)
      (V m c (Pipeline.arrRef spec0 w) ((cfg0.win w).arr.view.emb fun a => ⟨y a, block_lt w y a⟩)) := by
  have h : ∀ y, ((cfg0.win w).rect t0_0).emb y = fun a => ⟨y a, block_lt w y a⟩ := fun y => funext fun a =>
    Fin.ext (Window.rect_emb_val_of_index_zero (cfg0.win w) t0_0 a (index_zero w a) y)
  funext y
  rw [← h]
  rfl

/-- Each input's block is the whole argument. -/
theorem blocks :
    iblk m c 0 t0_0 = m ((c.tc : Thread nD τ).loc main_arg0) ∧ iblk m c 1 t0_0 = m ((c.tc : Thread nD τ).loc main_arg2)
    ∧ iblk m c 2 t0_0 = m ((c.tc : Thread nD τ).loc main_arg3) ∧ iblk m c 3 t0_0 = m ((c.tc : Thread nD τ).loc main_arg4)
    ∧ iblk m c 4 t0_0 = m ((c.tc : Thread nD τ).loc main_arg5) ∧ iblk m c 5 t0_0 = m ((c.tc : Thread nD τ).loc main_arg6)
    ∧ iblk m c 6 t0_0 = m ((c.tc : Thread nD τ).loc main_arg7) ∧ iblk m c 7 t0_0 = m ((c.tc : Thread nD τ).loc main_arg8)
    ∧ iblk m c 8 t0_0 = m ((c.tc : Thread nD τ).loc main_arg9) :=
  ⟨block_eq m c 0, block_eq m c 1, block_eq m c 2, block_eq m c 3, block_eq m c 4, block_eq m c 5, block_eq m c 6,
    block_eq m c 7, block_eq m c 8⟩

/-- The array of features after the call. -/
theorem array_value : (dats m 0 c).arrAt 9 cfg0.N = features m c := by
  refine (dats m 0 c).arrAt_eq_of_after_last 9 t0_0 (by decide +kernel) _ fun j => ?_
  obtain ⟨h0, h1, h2, h3, h4, h5, h6, h7, h8⟩ := blocks m c
  blk_simp
  rw [after0_9]
  frame_out
  rw [h0, h1, h2, h3, h4, h5, h6, h7, h8]
  exact congrFun (KernelBlock.block_value _ _ _ _ _ _ _ _ _) j

end Cert.KernelArray
-- ==== Proof.Tail.lean ====
/-
  The host lines of the kernel's program after its Pallas call compute the propagation of the edge list and the
  features that the call wrote.
-/
module

public import proofs.«01_k».proof.Proof.Propagate

@[expose] public section

noncomputable section

namespace Cert.Propagate

open Cert.KernelIdeal Cert.KernelIdeal.Gen Idealize.ShloMosaic Idealize.ShloMosaic.TcCoe Idealize.ShloMosaic.StableHlo

variable {F : FTy → Type} [FloatOps F]

set_option maxHeartbeats 2000000 in
set_option maxRecDepth 8192 in
/-- What the host lines leave in the program's result, from any contents before them. -/
theorem tail_value (W : Valuation τ sig (Elt F)) :
    after (List.flatten [hostOps1, hostOps1_1, hostOps1_2]) W (Proc.devRef .tc main_v210)
      = propagate (W (Proc.devRef .tc main_arg1)) (W (Proc.devRef .tc main_v0)) := by
  simp only [List.flatten_cons, List.flatten_nil, List.append_nil, List.cons_append, List.nil_append]
  after_reads_simp
  rfl

end Cert.Propagate
-- ==== Proof.KernelResult.lean ====
/-
  What the kernel's program leaves in its result: the propagation of its edge list and of the features its Pallas call
  wrote.
-/
module

public import proofs.«01_k».proof.Proof.KernelArray
public import proofs.«01_k».proof.Proof.Tail

@[expose] public section

noncomputable section

namespace Cert.KernelResult

open Cert.KernelIdeal Cert.KernelIdeal.Gen Idealize.ShloMosaic Idealize.SL.Sem
  Idealize.ShloMosaic.TcCoe Idealize.ShloMosaic.StableHlo

variable (m : (ℓ : Loc nD τ sig) → Buf (Elt Ideal) ℓ)

/-- The propagation of the edge list and of the perceptron's features. -/
def result (c : Dev nD) : FVec Ideal S10000x128 .f32 :=
  Propagate.propagate (m ((c.tc : Thread nD τ).loc main_arg1)) (KernelArray.features m c)

/-- The host lines after the call leave it in the program's result. -/
theorem tail_result (c : Dev nD) :
    Pipeline.afterTail₀ cfgs (dats m) 0 (V0 m) [hostOps1, hostOps1_1, hostOps1_2] c main_v210 = result m c := by
  unfold Pipeline.afterTail₀
  rw [Propagate.tail_value]
  have he := Pipeline.withArrays_of_ne (cfgs 0).spec c (V0 m c) (fun w => (dats m 0 c).arrAt w (cfgs 0).N) main_arg1
    (by decide)
  have hf := Pipeline.withArrays_arr (cfgs 0).spec (by decide) c (V0 m c) (fun w => (dats m 0 c).arrAt w (cfgs 0).N) 9
  exact congrArg₂ Propagate.propagate he (hf.trans (KernelArray.array_value m c))

/-- The program's run, its result as the propagation. -/
theorem run_result (ρ : Dev nD → PrngReg) :
    θ_run defs (onTc (τ := τ) (main (F := Ideal))) ⟨m, fun _ => 0, ρ⟩ fun r => ∀ c : Dev nD,
      r.2.mem ((c.tc : Thread nD τ).loc main_v210) = result m c :=
  (θ_run defs _ _).mono (fun _ h c =>
    ((h c).2 main_v210 (Pipeline.mem_restRefs_of main_v210 (by decide) (by decide))).trans (tail_result m c))
    (run_main m ρ)

end Cert.KernelResult
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.ReferencePropagate
public import proofs.«01_k».proof.Proof.KernelResult
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's program leaves its arguments as they were and every semaphore counter at zero: it declares no
    semaphore. -/
theorem frame_reference : Cert.quiescent_ReferenceIdeal := fun m ρ _ =>
  (θ_run Cert.ReferenceIdeal.defs _ _).mono
    (fun _ h => ⟨fun c => (h c).2, funext fun g => match g.2 with
      | .reg s => s.elim0
      | .dma s => s.elim0⟩)
    (Cert.ReferenceIdeal.Value.run m ρ)

/-- The two programs end with the same result: each leaves the propagation of the perceptron's features. -/
theorem algebraic : Cert.algebraic_KernelIdeal_ReferenceIdeal := fun m ρ m' ρ' _ hagree =>
  ⟨KernelResult.result m,
    (θ_run Cert.KernelIdeal.defs _ _).mono (fun _ h c => ⟨h.1 c, h.2.1 c⟩)
      (θ_run_and (KernelResult.run_result m ρ) (Cert.KernelIdeal.Gen.frame m ρ)),
    (θ_run Cert.ReferenceIdeal.defs _ _).mono
      (fun _ h c => ⟨(h.1 c).trans (by
        obtain ⟨h0, h1, h2, h3, h4, h5, h6, h7, h8, h9⟩ := hagree c
        unfold ReferencePropagate.result KernelResult.result KernelArray.features
        rw [h0, h1, h2, h3, h4, h5, h6, h7, h8, h9]), (h.2 c).2⟩)
      (θ_run_and (ReferencePropagate.run_result m' ρ') (Cert.ReferenceIdeal.Value.run m' ρ'))⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  algebraic⟩

end Cert.Proof

end
